-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sums_not_zero [hPre_sums_not_zero : Cert.Pre_sums_not_zero.Facts] (m : (ℓ : Loc Cert.KernelIdeal.nD Cert.KernelIdeal.τ Cert.KernelIdeal.sig) → Buf (Elt Ideal) ℓ) : Prop :=
  ∀ c : Dev Cert.KernelIdeal.nD,
    (Cert.Pre_sums_not_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sums_not_zero [hPre_sums_not_zero : Cert.Pre_sums_not_zero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sums_not_zero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_sums_not_zero [hKernelIdeal : Cert.KernelIdeal.Facts] [hPre_sums_not_zero : Cert.Pre_sums_not_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sums_not_zero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_sums_not_zero [hReferenceIdeal : Cert.ReferenceIdeal.Facts] [hPre_sums_not_zero : Cert.Pre_sums_not_zero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sums_not_zero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_sums_not_zero [hKernelIdeal : Cert.KernelIdeal.Facts] [hReferenceIdeal : Cert.ReferenceIdeal.Facts] [hPre_sums_not_zero : Cert.Pre_sums_not_zero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sums_not_zero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_sums_not_zero : Cert.Pre_sums_not_zero.Facts),
    quiescent_Kernel (hKernel := hKernel)
    ∧ quiescent_KernelIdeal (hKernelIdeal := hKernelIdeal)
    ∧ quiescent_KernelIdeal_pre_sums_not_zero (hKernelIdeal := hKernelIdeal) (hPre_sums_not_zero := hPre_sums_not_zero)
    ∧ quiescent_ReferenceIdeal (hReferenceIdeal := hReferenceIdeal)
    ∧ quiescent_ReferenceIdeal_pre_sums_not_zero (hReferenceIdeal := hReferenceIdeal) (hPre_sums_not_zero := hPre_sums_not_zero)
    ∧ preserves_Kernel_KernelIdeal
    ∧ algebraic_KernelIdeal_ReferenceIdeal_pre_sums_not_zero (hKernelIdeal := hKernelIdeal) (hReferenceIdeal := hReferenceIdeal) (hPre_sums_not_zero := hPre_sums_not_zero)
-- ==== Pre_sums_not_zero.lean ====
abbrev S8x1024 : Shape := ⟨2, ![8, 1024]⟩
abbrev S1000x50x1024 : Shape := ⟨3, ![1000, 50, 1024]⟩
abbrev S1000x1x1024 : Shape := ⟨3, ![1000, 1, 1024]⟩
abbrev S1000x51x1024 : Shape := ⟨3, ![1000, 51, 1024]⟩
abbrev S8x1000x51 : Shape := ⟨3, ![8, 1000, 51]⟩
abbrev S_ : Shape := ⟨0, ![]⟩
abbrev S1000x1024x8 : Shape := ⟨3, ![1000, 1024, 8]⟩
abbrev S8x1000x1024 : Shape := ⟨3, ![8, 1000, 1024]⟩
abbrev S8x1000 : Shape := ⟨2, ![8, 1000]⟩

class Facts : Prop where
  concatenates_S1000x50x1024_S1000x1x1024_S1000x51x1024_d1 : Shape.Concatenates [S1000x50x1024, S1000x1x1024] S1000x51x1024 1
  bcast_S_S8x1000x51 : S_.BroadcastsInDim S8x1000x51 (![] : Fin 0 → Fin S8x1000x51.rank)
  transposes_S1000x1024x8_S8x1000x1024_2_0_1 : S1000x1024x8.Transposes [2, 0, 1] S8x1000x1024
  reducesTo_S8x1000x1024_S8x1000_d2 : S8x1000x1024.ReducesTo [2] S8x1000
  h_S_ : 0 < S_.numel
  bcast_S_S8x1000 : S_.BroadcastsInDim S8x1000 (![] : Fin 0 → Fin S8x1000.rank)
  reducesTo_S8x1000_S_d0_1 : S8x1000.ReducesTo [0, 1] S_
  dot_S8x1024_S1000x51x1024_S8x1000x51_1_2_0_01_n_n_wf : DotDims.WF S8x1024 S1000x51x1024 S8x1000x51 [1] [2] [0] [0, 1] [] []
  dot_S1000x51x1024_S8x1000x51_S1000x1024x8_1_2_2_0_0_1_wf : DotDims.WF S1000x51x1024 S8x1000x51 S1000x1024x8 [1] [2] [2] [0] [0] [1]

variable [Facts]

def dot_S8x1024_S1000x51x1024_S8x1000x51_1_2_0_01_n_n : DotDims S8x1024 S1000x51x1024 S8x1000x51 where
  lhsContracting := [1]
  rhsContracting := [2]
  lhsNonContracting := [0]
  rhsNonContracting := [0, 1]
  lhsBatch := []
  rhsBatch := []
  wf := dot_S8x1024_S1000x51x1024_S8x1000x51_1_2_0_01_n_n_wf
def dot_S1000x51x1024_S8x1000x51_S1000x1024x8_1_2_2_0_0_1 : DotDims S1000x51x1024 S8x1000x51 S1000x1024x8 where
  lhsContracting := [1]
  rhsContracting := [2]
  lhsNonContracting := [2]
  rhsNonContracting := [0]
  lhsBatch := [0]
  rhsBatch := [1]
  wf := dot_S1000x51x1024_S8x1000x51_S1000x1024x8_1_2_2_0_0_1_wf
def fn {F : FTy → Type} [FloatOps F] (main_arg0 : FVec F S8x1024 .f32) (main_arg1 : FVec F S1000x50x1024 .f32) (main_arg2 : FVec F S1000x1x1024 .f32) : IVec S_ 1 :=
  let main_v0 : FVec F S1000x51x1024 .f32 := (fun a b => concatenate S1000x51x1024 1 [⟨S1000x50x1024, a⟩, ⟨S1000x1x1024, b⟩] concatenates_S1000x50x1024_S1000x1x1024_S1000x51x1024_d1) main_arg1 main_arg2
  let main_v1 : FVec F S8x1000x51 .f32 := (fun l r => Host.dotGeneral dot_S8x1024_S1000x51x1024_S8x1000x51_1_2_0_01_n_n none l r) main_arg0 main_v0
  let main_v2 : FVec F S8x1000x51 .f32 := Host.negf main_v1
  let main_cst : FVec F S_ .f32 := constant S_ .f32 0x3F800000#32
  let main_v3 : FVec F S8x1000x51 .f32 := broadcastInDim S8x1000x51 ![] bcast_S_S8x1000x51 main_cst
  let main_v4 : FVec F S8x1000x51 .f32 := addf main_v2 main_v3
  let main_cst_0 : FVec F S_ .f32 := constant S_ .f32 0xC0B00000#32
  let main_v5 : FVec F S8x1000x51 .f32 := broadcastInDim S8x1000x51 ![] bcast_S_S8x1000x51 main_cst_0
  let main_v6 : FVec F S8x1000x51 .f32 := mulf main_v5 main_v4
  let main_v7 : FVec F S8x1000x51 .f32 := Host.exp main_v6
  let main_v8 : FVec F S1000x1024x8 .f32 := (fun l r => Host.dotGeneral dot_S1000x51x1024_S8x1000x51_S1000x1024x8_1_2_2_0_0_1 none l r) main_v0 main_v7
  let main_v9 : FVec F S8x1000x1024 .f32 := (transpose S8x1000x1024 [2, 0, 1] · transposes_S1000x1024x8_S8x1000x1024_2_0_1) main_v8
  let main_v10 : FVec F S8x1000x1024 .f32 := mulf main_v9 main_v9
  let main_cst_1 : FVec F S_ .f32 := constant S_ .f32 0x00000000#32
  let main_v11 : FVec F S8x1000 .f32 := (fun x v => Host.reduceAdd x v reducesTo_S8x1000x1024_S8x1000_d2 h_S_) main_v10 main_cst_1
  let main_cst_2 : FVec F S_ .f32 := constant S_ .f32 0x00000000#32
  let main_v12 : FVec F S8x1000 .f32 := broadcastInDim S8x1000 ![] bcast_S_S8x1000 main_cst_2
  let main_v13 : IVec S8x1000 1 := cmpf .ogt main_v11 main_v12
  let main_c : IVec S_ 1 := constantI S_ 1 1#1
  let main_v14 : IVec S_ 1 := (fun x v => Host.reduce IntOp.andi x v reducesTo_S8x1000_S_d0_1 h_S_) main_v13 main_c
  main_v14
-- ==== Kernel.lean ====
abbrev S8x1024 : Shape := ⟨2, ![8, 1024]⟩
abbrev S1000x50x1024 : Shape := ⟨3, ![1000, 50, 1024]⟩
abbrev S1000x1x1024 : Shape := ⟨3, ![1000, 1, 1024]⟩
abbrev S_ : Shape := ⟨0, ![]⟩
abbrev S1000x13x1024 : Shape := ⟨3, ![1000, 13, 1024]⟩
abbrev S1000x64x1024 : Shape := ⟨3, ![1000, 64, 1024]⟩
abbrev S40x8x25 : Shape := ⟨3, ![40, 8, 25]⟩
abbrev S25x64x1024 : Shape := ⟨3, ![25, 64, 1024]⟩
abbrev S1x8x25 : Shape := ⟨3, ![1, 8, 25]⟩
abbrev S1600x1024 : Shape := ⟨2, ![1600, 1024]⟩
abbrev S8x1600 : Shape := ⟨2, ![8, 1600]⟩
abbrev S25x1600 : Shape := ⟨2, ![25, 1600]⟩
abbrev S8x25 : Shape := ⟨2, ![8, 25]⟩
abbrev S1x8x1600 : Shape := ⟨3, ![1, 8, 1600]⟩
abbrev S25x1x1600 : Shape := ⟨3, ![25, 1, 1600]⟩
abbrev S25x8x1600 : Shape := ⟨3, ![25, 8, 1600]⟩
abbrev S200x1600 : Shape := ⟨2, ![200, 1600]⟩
abbrev S200x1024 : Shape := ⟨2, ![200, 1024]⟩
abbrev S25x8x1024 : Shape := ⟨3, ![25, 8, 1024]⟩
abbrev S25x8 : Shape := ⟨2, ![25, 8]⟩
abbrev S8x40x25 : Shape := ⟨3, ![8, 40, 25]⟩
abbrev S8x1000 : Shape := ⟨2, ![8, 1000]⟩

abbrev nBuf : Space → Nat
  | .hbm => 11
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S1000x50x1024, .f32⟩
  | .hbm, ⟨2, _⟩ => ⟨S1000x1x1024, .f32⟩
  | .hbm, ⟨3, _⟩ => ⟨S1000x50x1024, .bf16⟩
  | .hbm, ⟨4, _⟩ => ⟨S1000x1x1024, .bf16⟩
  | .hbm, ⟨5, _⟩ => ⟨S_, .bf16⟩
  | .hbm, ⟨6, _⟩ => ⟨S1000x13x1024, .bf16⟩
  | .hbm, ⟨7, _⟩ => ⟨S1000x64x1024, .bf16⟩
  | .hbm, ⟨8, _⟩ => ⟨S40x8x25, .f32⟩
  | .hbm, ⟨9, _⟩ => ⟨S8x40x25, .f32⟩
  | .hbm, ⟨10, _⟩ => ⟨S8x1000, .f32⟩
  | .local _ .vmem, ⟨0, _⟩ => ⟨S8x1024, .f32⟩
  | .local _ .vmem, ⟨1, _⟩ => ⟨S25x64x1024, .bf16⟩
  | .local _ .vmem, ⟨2, _⟩ => ⟨S25x64x1024, .bf16⟩
  | .local _ .vmem, ⟨3, _⟩ => ⟨S1x8x25, .f32⟩
  | .local _ .vmem, ⟨4, _⟩ => ⟨S1x8x25, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S25x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x25 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S8x1024 : Shape := ⟨2, ![8, 1024]⟩
abbrev S1000x50x1024 : Shape := ⟨3, ![1000, 50, 1024]⟩
abbrev S1000x1x1024 : Shape := ⟨3, ![1000, 1, 1024]⟩
abbrev S1000x51x1024 : Shape := ⟨3, ![1000, 51, 1024]⟩
abbrev S8x1000x51 : Shape := ⟨3, ![8, 1000, 51]⟩
abbrev S_ : Shape := ⟨0, ![]⟩
abbrev S1000x1024x8 : Shape := ⟨3, ![1000, 1024, 8]⟩
abbrev S8x1000x1024 : Shape := ⟨3, ![8, 1000, 1024]⟩
abbrev S8x1000 : Shape := ⟨2, ![8, 1000]⟩
abbrev S8x1000x1 : Shape := ⟨3, ![8, 1000, 1]⟩

abbrev nBuf : Space → Nat
  | .hbm => 26
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1000x50x1024, .f32⟩
  | .hbm, ⟨2, _⟩ => ⟨S1000x1x1024, .f32⟩
  | .hbm, ⟨3, _⟩ => ⟨S1000x51x1024, .f32⟩
  | .hbm, ⟨4, _⟩ => ⟨S8x1000x51, .f32⟩
  | .hbm, ⟨5, _⟩ => ⟨S8x1000x51, .f32⟩
  | .hbm, ⟨6, _⟩ => ⟨S_, .f32⟩
  | .hbm, ⟨7, _⟩ => ⟨S8x1000x51, .f32⟩
  | .hbm, ⟨8, _⟩ => ⟨S8x1000x51, .f32⟩
  | .hbm, ⟨9, _⟩ => ⟨S_, .f32⟩
  | .hbm, ⟨10, _⟩ => ⟨S8x1000x51, .f32⟩
  | .hbm, ⟨11, _⟩ => ⟨S8x1000x51, .f32⟩
  | .hbm, ⟨12, _⟩ => ⟨S8x1000x51, .f32⟩
  | .hbm, ⟨13, _⟩ => ⟨S1000x1024x8, .f32⟩
  | .hbm, ⟨14, _⟩ => ⟨S8x1000x1024, .f32⟩
  | .hbm, ⟨15, _⟩ => ⟨S8x1000x1024, .f32⟩
  | .hbm, ⟨16, _⟩ => ⟨S_, .f32⟩
  | .hbm, ⟨17, _⟩ => ⟨S8x1000, .f32⟩
  | .hbm, ⟨18, _⟩ => ⟨S8x1000x1, .f32⟩
  | .hbm, ⟨19, _⟩ => ⟨S8x1000x1, .f32⟩
  | .hbm, ⟨20, _⟩ => ⟨S8x1000x1024, .f32⟩
  | .hbm, ⟨21, _⟩ => ⟨S8x1000x1024, .f32⟩
  | .hbm, ⟨22, _⟩ => ⟨S8x1000, .f32⟩
  | .hbm, ⟨23, _⟩ => ⟨S_, .f32⟩
  | .hbm, ⟨24, _⟩ => ⟨S8x1000, .f32⟩
  | .hbm, ⟨25, _⟩ => ⟨S8x1000, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_v0 : Ref sig .tc := ⟨.hbm, 15, rfl⟩
abbrev main_call0_cst : Ref sig .tc := ⟨.hbm, 16, rfl⟩
abbrev main_call0_v1 : Ref sig .tc := ⟨.hbm, 17, rfl⟩
abbrev main_call0_v2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Proof.Weights.lean ====
/-
  The literals of the two programs as real numbers, and the weight of a row of memory as a function of its similarity.
-/
module

public import Idealize.ShloMosaic.PureOps.Ideal

@[expose] public section

noncomputable section

namespace Cert.Logit

open Idealize.ShloMosaic

/-- The literal `1.0`. -/
theorem lit_one : Ideal.ofBits .f32 0x3F800000#32 = ((1 : ℝ) : EReal) := by
  simp [Ideal.ofBits, Ideal.ieee, -EReal.coe_mul]; norm_num

/-- The literal `-5.5`. -/
theorem lit_beta : Ideal.ofBits .f32 0xC0B00000#32 = ((-5.5 : ℝ) : EReal) := by
  simp [Ideal.ofBits, Ideal.ieee, -EReal.coe_mul]; norm_num

/-- The literal `0.0`. -/
theorem lit_zero : Ideal.ofBits .f32 0x00000000#32 = 0 := by
  simp [Ideal.ofBits, Ideal.ieee]

/-- The literal `0.0` of the sixteen-bit format. -/
theorem lit_zero_bf16 : Ideal.ofBits .bf16 0x0000#16 = 0 := by
  simp [Ideal.ofBits, Ideal.ieee]

/-- The weight of a row of similarity `r`: the exponential of `-5.5 * (1 - r)`. -/
def weight (r : EReal) : EReal :=
  Ideal.exp (Ideal.ofBits .f32 0xC0B00000#32 * (Ideal.ofBits .f32 0x3F800000#32 - r))

/-- The same weight with the difference written `-r + 1`. -/
theorem weight_eq (r : EReal) :
    Ideal.exp (Ideal.ofBits .f32 0xC0B00000#32 * (-r + Ideal.ofBits .f32 0x3F800000#32)) = weight r := by
  rw [weight, sub_eq_add_neg, add_comm]

/-- An exponential is nonnegative. -/
theorem exp_nonneg (y : EReal) : 0 ≤ Ideal.exp y := by
  induction y with
  | bot => simp
  | top => simp
  | coe y => rw [Ideal.exp_coe]; exact_mod_cast (Real.exp_pos y).le

/-- A weight is nonnegative. -/
theorem weight_nonneg (r : EReal) : 0 ≤ weight r := by
  have h : ∀ y : EReal, 0 ≤ Ideal.exp y := exp_nonneg
  exact h _

/-- A row of similarity `⊥` has weight `0`. -/
theorem weight_bot : weight ⊥ = 0 := by
  rw [weight, lit_beta, lit_one, EReal.coe_sub_bot, EReal.coe_mul_top_of_neg (by norm_num), Ideal.exp_bot]

/-- A row of similarity `⊤` has weight `⊤`. -/
theorem weight_top : weight ⊤ = ⊤ := by
  rw [weight, lit_beta, lit_one, EReal.sub_top, EReal.coe_mul_bot_of_neg (by norm_num), Ideal.exp_top]

end Cert.Logit

end
-- ==== Proof.Block.lean ====
/-
  What one grid point of the kernel computes, from the image features and the 25 classes of its block.
-/
module

public import proofs.«01_k».proof.Proof.Gen.KernelIdeal.Skeleton
public import proofs.«01_k».proof.Proof.Weights
public import Idealize.ShloMosaic.Lib.Pointwise

@[expose] public section

set_option maxRecDepth 16384

noncomputable section

namespace Cert.Logit

open Idealize.ShloMosaic Cert.KernelIdeal Cert.KernelIdeal.Gen
open scoped BigOperators

variable (x : FVec Ideal S8x1024 .f32) (y : FVec Ideal S25x64x1024 .bf16)

/-- The block's rows, its 25 classes of 64 rows each laid end to end: row `q` is row `q % 64` of class `q / 64`. -/
theorem pay2_at (q : Fin 1600) (d : Fin 1024) :
    k0_pay2 (F := Ideal) y (ix2 q d) = y (ix3 ⟨q.val / 64, by omega⟩ ⟨q.val % 64, by omega⟩ d) := by
  pointwise [k0_pay2]

/-- The similarity of image `b` with row `q` of the block's 1600 rows. -/
def rowSim (b : Fin 8) (q : Fin 1600) : EReal := ∑ d : Fin 1024, x (ix2 b d) * k0_pay2 (F := Ideal) y (ix2 q d)

/-- The first product is the similarities. -/
theorem pay3_at (b : Fin 8) (q : Fin 1600) : k0_pay3 (F := Ideal) x y (ix2 b q) = rowSim x y b q := by
  unfold rowSim
  pointwise [k0_pay3]

/-- The exponential is the weights. -/
theorem pay4_at (b : Fin 8) (q : Fin 1600) : k0_pay4 (F := Ideal) x y (ix2 b q) = weight (rowSim x y b q) := by
  rw [← pay3_at]
  rfl

/-- The number of the class a row belongs to, as the kernel's words compute it: the signed quotient, less one where the
    signs differ and the remainder is not zero, which never happens. -/
def classWord (q : BitVec 32) : BitVec 32 :=
  Scalar.select
    (IntOp.andi
      (IntOp.cmpi CmpIPredicate.ne
        (IntOp.subi (BitVec.setWidth 32 (IntOp.cmpi CmpIPredicate.sgt q 0#32)) (BitVec.setWidth 32 (IntOp.cmpi CmpIPredicate.slt q 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector q 64#32) 0#32))
    (IntOp.subi (IntOp.divsi ArithUnit.vector q 64#32) 1#32)
    (IntOp.divsi ArithUnit.vector q 64#32)

/-- On the block's rows it is the quotient by 64. -/
theorem classWord_eq : ∀ q : Fin 1600, classWord (BitVec.ofNat 32 q.val) = BitVec.ofNat 32 (q.val / 64) := by decide +kernel

/-- A comparison for equality, converted to a number, is 1 or 0. -/
theorem sitofp_eq (a b : Nat) (ha : a < 2 ^ 32) (hb : b < 2 ^ 32) :
    FloatOps.sitofp (F := Ideal) FTy.f32 (BitVec.setWidth 32 (IntOp.cmpi CmpIPredicate.eq (BitVec.ofNat 32 a) (BitVec.ofNat 32 b)))
      = if a = b then (1 : EReal) else 0 := by
  by_cases h : a = b
  · subst h
    simp [FloatOps.sitofp, IntOp.cmpi]
  · have hne : BitVec.ofNat 32 a ≠ BitVec.ofNat 32 b := fun e => h (by
      have e' := congrArg BitVec.toNat e
      rwa [BitVec.toNat_ofNat, BitVec.toNat_ofNat, Nat.mod_eq_of_lt ha, Nat.mod_eq_of_lt hb] at e')
    have hb : (BitVec.ofNat 32 a == BitVec.ofNat 32 b) = false := beq_eq_false_iff_ne.2 hne
    simp [FloatOps.sitofp, IntOp.cmpi, hb, h]

/-- The mask: 1 where row `q` is of class `j`, 0 elsewhere. -/
theorem pay5_at (j : Fin 25) (q : Fin 1600) : k0_pay5 (F := Ideal) (ix2 j q) = if q.val / 64 = j.val then 1 else 0 := by
  rw [← sitofp_eq (q.val / 64) j.val (by omega) (by omega), ← classWord_eq]
  pointwise [k0_pay5, classWord]

/-- A sum over the block's rows, masked to class `j`, is the sum over the rows of class `j`. -/
theorem sum_mask (f : Fin 1600 → EReal) (j : Fin 25) :
    ∑ q : Fin 1600, f q * (if q.val / 64 = j.val then 1 else 0) = ∑ k : Fin 64, f ⟨64 * j.val + k.val, by omega⟩ := by
  rw [← Equiv.sum_comp (finProdFinEquiv (m := 25) (n := 64)) fun q : Fin 1600 => f q * (if q.val / 64 = j.val then 1 else 0),
    Fintype.sum_prod_type, Finset.sum_eq_single j]
  · refine Finset.sum_congr rfl fun k _ => ?_
    have e : (finProdFinEquiv (j, k) : Fin (25 * 64)).val = 64 * j.val + k.val := by simp [finProdFinEquiv]; omega
    rw [if_pos (by rw [e]; omega), mul_one]
    exact congrArg f (Fin.ext e)
  · intro a _ ha
    refine Finset.sum_eq_zero fun k _ => ?_
    have e : (finProdFinEquiv (a, k) : Fin (25 * 64)).val = 64 * a.val + k.val := by simp [finProdFinEquiv]; omega
    rw [if_neg (by rw [e]; have := Fin.val_ne_of_ne ha; omega), mul_zero]
  · simp

/-- The weighted similarities of each class. -/
theorem pay6_at (b : Fin 8) (j : Fin 25) :
    k0_pay6 (F := Ideal) x y (ix2 b j)
      = ∑ q : Fin 1600, (k0_pay4 (F := Ideal) x y (ix2 b q) * k0_pay3 (F := Ideal) x y (ix2 b q)) * k0_pay5 (F := Ideal) (ix2 j q) := by
  pointwise [k0_pay6]

/-- The weights with a leading axis of one. -/
theorem pay7_at (b : Fin 8) (q : Fin 1600) : k0_pay7 (F := Ideal) x y (ix3 0 b q) = weight (rowSim x y b q) := by
  rw [← pay4_at]
  pointwise [k0_pay7]

/-- The stored value, from the rows, the mask, the weighted similarities and the weights. -/
theorem pay1_at (v4 : FVec Ideal S1600x1024 .bf16) (v39 : FVec Ideal S25x1600 .f32) (v41 : FVec Ideal S8x25 .f32)
    (v42 : FVec Ideal S1x8x1600 .f32) (b : Fin 8) (j : Fin 25) :
    k0_pay1 (F := Ideal) v4 v39 v41 v42 (ix3 0 b j)
      = (Ideal.ofBits .f32 0x42C80000#32 * v41 (ix2 b j)) * Ideal.rsqrt (∑ d : Fin 1024,
          (∑ q : Fin 1600, (v42 (ix3 0 b q) * v39 (ix2 j q)) * v4 (ix2 q d))
            * (∑ q : Fin 1600, (v42 (ix3 0 b q) * v39 (ix2 j q)) * v4 (ix2 q d))) := by
  pointwise [k0_pay1]

/-- The similarity of image `b` with row `k` of the block's class `j`. -/
def blockSim (b : Fin 8) (j : Fin 25) (k : Fin 64) : EReal := ∑ d : Fin 1024, x (ix2 b d) * y (ix3 j k d)

/-- The weighted sum of the rows of the block's class `j`, for image `b`, at coordinate `d`. -/
def blockAdapt (b : Fin 8) (j : Fin 25) (d : Fin 1024) : EReal :=
  ∑ k : Fin 64, y (ix3 j k d) * weight (blockSim x y b j k)

/-- Row `k` of class `j` is row `64 * j + k` of the block. -/
theorem pay2_row (j : Fin 25) (k : Fin 64) (d : Fin 1024) :
    k0_pay2 (F := Ideal) y (ix2 ⟨64 * j.val + k.val, by omega⟩ d) = y (ix3 j k d) := by
  rw [pay2_at]
  have e1 : (⟨(64 * j.val + k.val) / 64, by omega⟩ : Fin 25) = j := Fin.ext (by show (64 * j.val + k.val) / 64 = _; omega)
  have e2 : (⟨(64 * j.val + k.val) % 64, by omega⟩ : Fin 64) = k := Fin.ext (by show (64 * j.val + k.val) % 64 = _; omega)
  exact congrArg y (congr (congrArg ix3 e1) e2 ▸ rfl)

/-- So its similarity is the class's. -/
theorem rowSim_row (b : Fin 8) (j : Fin 25) (k : Fin 64) :
    rowSim x y b ⟨64 * j.val + k.val, by omega⟩ = blockSim x y b j k := by
  unfold rowSim blockSim
  exact Finset.sum_congr rfl fun d _ => by rw [pay2_row]

/-- WHAT ONE GRID POINT STORES, at image `b` and class `j` of its block. -/
theorem block_at (b : Fin 8) (j : Fin 25) :
    k0_pay1 (F := Ideal) (k0_pay2 y) (k0_pay5 (F := Ideal)) (k0_pay6 x y) (k0_pay7 x y) (ix3 0 b j)
      = (Ideal.ofBits .f32 0x42C80000#32 * ∑ k : Fin 64, weight (blockSim x y b j k) * blockSim x y b j k)
        * Ideal.rsqrt (∑ d : Fin 1024, blockAdapt x y b j d * blockAdapt x y b j d) := by
  have h : ∀ d : Fin 1024, ∑ q : Fin 1600, (k0_pay7 (F := Ideal) x y (ix3 0 b q) * k0_pay5 (F := Ideal) (ix2 j q)) * k0_pay2 (F := Ideal) y (ix2 q d)
      = blockAdapt x y b j d := by
    intro d
    unfold blockAdapt
    simp only [← rowSim_row, ← pay2_row y j]
    rw [← sum_mask (fun q => k0_pay2 (F := Ideal) y (ix2 q d) * weight (rowSim x y b q)) j]
    refine Finset.sum_congr rfl fun q _ => ?_
    rw [pay7_at, pay5_at, mul_right_comm, mul_comm (weight _)]
  rw [pay1_at, pay6_at]
  simp only [h]
  simp only [← rowSim_row]
  rw [← sum_mask (fun q => weight (rowSim x y b q) * rowSim x y b q) j]
  simp only [pay3_at, pay4_at, pay5_at]

end Cert.Logit

end
-- ==== Proof.Array.lean ====
/-
  What the kernel's output array holds after the run, from the arrays its windows read.
-/
module

public import proofs.«01_k».proof.Proof.Gen.KernelIdeal.Frame
public import proofs.«01_k».proof.Proof.Block
public import Idealize.ShloMosaic.Lib.Pipeline.ValueKit

@[expose] public section

set_option maxRecDepth 16384

noncomputable section

namespace Cert.Logit

open Idealize.ShloMosaic Idealize.ShloMosaic.TcCoe Idealize.SL.Sem Cert.KernelIdeal Cert.KernelIdeal.Gen
open scoped BigOperators

/-- The similarity of image `b` with row `k` of class `c`, over the padded array of 64 rows a class. -/
def padSim (x : FVec Ideal S8x1024 .f32) (z : FVec Ideal S1000x64x1024 .bf16) (b : Fin 8) (c : Fin 1000) (k : Fin 64) : EReal :=
  ∑ d : Fin 1024, x (ix2 b d) * z (ix3 c k d)

/-- The weighted sum of the padded rows of class `c`, for image `b`, at coordinate `d`. -/
def padAdapt (x : FVec Ideal S8x1024 .f32) (z : FVec Ideal S1000x64x1024 .bf16) (b : Fin 8) (c : Fin 1000) (d : Fin 1024) : EReal :=
  ∑ k : Fin 64, z (ix3 c k d) * weight (padSim x z b c k)

/-- The kernel's value at image `b` and class `c`. -/
def padLogit (x : FVec Ideal S8x1024 .f32) (z : FVec Ideal S1000x64x1024 .bf16) (b : Fin 8) (c : Fin 1000) : EReal :=
  (Ideal.ofBits .f32 0x42C80000#32 * ∑ k : Fin 64, weight (padSim x z b c k) * padSim x z b c k)
    * Ideal.rsqrt (∑ d : Fin 1024, padAdapt x z b c d * padAdapt x z b c d)

/-- The output array: entry `(t, b, j)` is the value at image `b` and class `25 * t + j`. -/
def outArr (x : FVec Ideal S8x1024 .f32) (z : FVec Ideal S1000x64x1024 .bf16) : FVec Ideal S40x8x25 .f32 :=
  fun i => padLogit x z (i 1) ⟨25 * (i 0 : Fin 40).val + (i 2 : Fin 25).val, by
    have h0 : (i 0).val < 40 := (i 0).isLt
    have h2 : (i 2).val < 25 := (i 2).isLt
    omega⟩

variable (m : (ℓ : Loc nD τ sig) → Buf (Elt Ideal) ℓ) (c : Dev nD)

/-- The image features are read whole at every point. -/
theorem idx0 : ∀ t : Fin cfg0.N, win0_0.index t = ![0, 0] := by decide +kernel
/-- Point `t` reads the `t`-th 25 classes … -/
theorem idx1 : ∀ t : Fin cfg0.N, win0_1.index t = ![t.val, 0, 0] := by decide +kernel
/-- … and writes the `t`-th block of the output. -/
theorem idx2 : ∀ t : Fin cfg0.N, win0_2.index t = ![t.val, 0, 0] := by decide +kernel

/-- The first window's block at point `t`, at an index. -/
theorem iblk0_at (t : Fin cfg0.N) (b : Fin 8) (d : Fin 1024) :
    (iblk m c 0 t : FVec Ideal S8x1024 .f32) (ix2 b d) = (V m c main_arg0 : FVec Ideal S8x1024 .f32) (ix2 b d) := by
  blk_ext [iblk, idx0 t]

/-- The second window's block at point `t`, at an index: class `j` of the block is class `25 * t + j` of the array. -/
theorem iblk1_at (t : Fin cfg0.N) (j : Fin 25) (k : Fin 64) (d : Fin 1024) (h : 25 * t.val + j.val < 1000) :
    (iblk m c 1 t : FVec Ideal S25x64x1024 .bf16) (ix3 j k d)
      = (V m c main_v3 : FVec Ideal S1000x64x1024 .bf16) (ix3 ⟨25 * t.val + j.val, h⟩ k d) := by
  blk_ext [iblk, idx1 t]

/-- What point `t` computes is the array's block `t`, at an index. -/
theorem point_at (t : Fin cfg0.N) (b : Fin 8) (j : Fin 25) (h : 25 * t.val + j.val < 1000) :
    k0_pay1 (F := Ideal) (k0_pay2 (iblk m c 1 t)) (k0_pay5 (F := Ideal)) (k0_pay6 (iblk m c 0 t) (iblk m c 1 t))
        (k0_pay7 (iblk m c 0 t) (iblk m c 1 t)) (ix3 0 b j)
      = padLogit (V m c main_arg0) (V m c main_v3) b ⟨25 * t.val + j.val, h⟩ := by
  have hs : ∀ k, blockSim (iblk m c 0 t) (iblk m c 1 t) b j k
      = padSim (V m c main_arg0) (V m c main_v3) b ⟨25 * t.val + j.val, h⟩ k := fun k => by
    unfold blockSim padSim
    exact Finset.sum_congr rfl fun d _ => by rw [iblk0_at, iblk1_at m c t j k d h]
  have ha : ∀ d, blockAdapt (iblk m c 0 t) (iblk m c 1 t) b j d
      = padAdapt (V m c main_arg0) (V m c main_v3) b ⟨25 * t.val + j.val, h⟩ d := fun d => by
    unfold blockAdapt padAdapt
    exact Finset.sum_congr rfl fun k _ => by rw [hs, iblk1_at m c t j k d h]
  rw [block_at]
  unfold padLogit
  simp only [hs, ha]

/-- WHAT THE OUTPUT ARRAY HOLDS after the run. -/
theorem final_out : (dats m 0 c).arrAt 2 cfg0.N = outArr (V m c main_arg0) (V m c main_v3) := by
  refine (dats m 0 c).arrAt_eq_of_covers 2 _ (by decide +kernel) fun t hf y => ?_
  blk_simp
  rw [after0_2]
  frame_out
  obtain ⟨a, b, j, rfl⟩ : ∃ (a : Fin 1) (b : Fin 8) (j : Fin 25), y = ix3 a b j := ⟨y 0, y 1, y 2, eq_ix3 _⟩
  obtain rfl : a = 0 := Subsingleton.elim _ _
  have ht : t.val < 40 := t.isLt
  have e : ((View.whole main_v4).slice (win0_2.rect t)).emb (ix3 (0 : Fin 1) b j) = ix3 (⟨t.val, ht⟩ : Fin 40) b j := by
    blk_ext [idx2 t]
  rw [e]
  exact point_at m c t b j (by omega)

end Cert.Logit

end
-- ==== Proof.Reference.lean ====
/-
  What the reference computes, at one image `b` and one class `c`, over the rows of the class's memory bank.
-/
module

public import proofs.«01_k».proof.Proof.Gen.ReferenceIdeal
public import proofs.«01_k».proof.Proof.Gen.ReferenceIdeal.Read
public import proofs.«01_k».proof.Proof.Weights
public import Idealize.ShloMosaic.Lib.Pointwise

@[expose] public section

set_option maxRecDepth 16384

noncomputable section

namespace Cert.Logit

open Idealize.ShloMosaic Cert.ReferenceIdeal Cert.ReferenceIdeal.Read
open scoped BigOperators

variable (x0 : FVec Ideal S8x1024 .f32) (x1 : FVec Ideal S1000x50x1024 .f32) (x2 : FVec Ideal S1000x1x1024 .f32)

/-- Row `m` of class `c` in the memory bank: the fifty stored rows, then the fixed one. -/
def bank (c : Fin 1000) (m : Fin 51) (d : Fin 1024) : EReal := val_main_v0 (F := Ideal) x1 x2 (ix3 c m d)

/-- The similarity of image `b` with row `m` of class `c`. -/
def sim (b : Fin 8) (c : Fin 1000) (m : Fin 51) : EReal := ∑ d : Fin 1024, x0 (ix2 b d) * bank x1 x2 c m d

/-- The weighted sum of the rows of class `c`, for image `b`, at coordinate `d`. -/
def adapt (b : Fin 8) (c : Fin 1000) (d : Fin 1024) : EReal :=
  ∑ m : Fin 51, bank x1 x2 c m d * weight (sim x0 x1 x2 b c m)

/-- A row of the bank is a stored row, except the last, which is the fixed one. -/
theorem bank_eq (c : Fin 1000) (m : Fin 51) (d : Fin 1024) :
    bank x1 x2 c m d = if h : m.val < 50 then x1 (ix3 c ⟨m.val, h⟩ d) else x2 (ix3 c 0 d) := by
  unfold bank
  pointwise [val_main_v0]
  split
  · rfl
  · exact congrArg (fun e => x2 (ix3 c e d)) (Subsingleton.elim _ _)

/-- The reference's similarities. -/
theorem val_main_v1_at (b : Fin 8) (c : Fin 1000) (m : Fin 51) :
    val_main_v1 (F := Ideal) x0 x1 x2 (ix3 b c m) = sim x0 x1 x2 b c m := by
  rw [val_main_v1_apply]
  unfold sim bank
  generalize val_main_v0 (F := Ideal) x1 x2 = y0
  refine Finset.sum_congr rfl fun d _ => ?_
  congr 1
  · exact congrArg x0 (eq_ix2 _)
  · exact congrArg y0 (eq_ix3 _)

/-- The reference's weights. -/
theorem val_main_v7_at (b : Fin 8) (c : Fin 1000) (m : Fin 51) :
    val_main_v7 (F := Ideal) x0 x1 x2 (ix3 b c m) = weight (sim x0 x1 x2 b c m) := by
  rw [val_main_v7_apply, val_main_v6_apply, val_main_v5_apply, val_main_v4_apply, val_main_v2_apply, val_main_v3_apply,
    val_main_v1_at, val_main_cst_apply, val_main_cst_0_apply]
  exact weight_eq _

/-- The reference's weighted sums. -/
theorem val_main_v9_at (b : Fin 8) (c : Fin 1000) (d : Fin 1024) :
    val_main_v9 (F := Ideal) x0 x1 x2 (ix3 b c d) = adapt x0 x1 x2 b c d := by
  rw [val_main_v9_apply, val_main_v8_apply]
  unfold adapt
  refine Finset.sum_congr rfl fun m _ => ?_
  rw [← val_main_v7_at]
  unfold bank
  congr 1
  · exact congrArg (val_main_v0 (F := Ideal) x1 x2) (eq_ix3 _)
  · exact congrArg (val_main_v7 (F := Ideal) x0 x1 x2) (eq_ix3 _)

/-- The reference's squared lengths. -/
theorem val_main_call0_v1_at (b : Fin 8) (c : Fin 1000) :
    val_main_call0_v1 (F := Ideal) x0 x1 x2 (ix2 b c) = ∑ d, adapt x0 x1 x2 b c d * adapt x0 x1 x2 b c d := by
  rw [val_main_call0_v1_apply, val_main_call0_cst_apply]
  refine (congrArg (· + _) lit_zero).trans ((zero_add _).trans (Finset.sum_congr rfl fun d _ => ?_))
  rw [val_main_call0_v0_apply, show idx_main_call0_v1 (ix2 b c) d = ix3 b c d from eq_ix3 _, val_main_v9_at]
  rfl

/-- The reference's normalised sums. -/
theorem val_main_v12_at (b : Fin 8) (c : Fin 1000) (d : Fin 1024) :
    val_main_v12 (F := Ideal) x0 x1 x2 (ix3 b c d)
      = Ideal.div (adapt x0 x1 x2 b c d) (Ideal.sqrt (∑ d, adapt x0 x1 x2 b c d * adapt x0 x1 x2 b c d)) := by
  rw [val_main_v12_apply, val_main_v9_at, val_main_v11_apply, val_main_v10_apply, val_main_call0_v2_apply,
    ← val_main_call0_v1_at]
  rw [show idx_main_call0_v2 (idx_main_v11 (ix3 b c d)) = ix2 b c from eq_ix2 _]
  rfl

/-- WHAT THE REFERENCE RETURNS at image `b` and class `c`. -/
theorem val_main_v15_at (b : Fin 8) (c : Fin 1000) :
    val_main_v15 (F := Ideal) x0 x1 x2 (ix2 b c)
      = Ideal.ofBits .f32 0x42C80000#32 * ∑ d, x0 (ix2 b d) * Ideal.div (adapt x0 x1 x2 b c d)
          (Ideal.sqrt (∑ d, adapt x0 x1 x2 b c d * adapt x0 x1 x2 b c d)) := by
  rw [val_main_v15_apply, val_main_v14_apply, val_main_cst_1_apply, val_main_v13_apply]
  refine congrArg (Ideal.ofBits .f32 0x42C80000#32 * ·) (Finset.sum_congr rfl fun d _ => ?_)
  rw [← val_main_v12_at]
  congr 1
  · exact congrArg x0 (eq_ix2 _)
  · exact congrArg (val_main_v12 (F := Ideal) x0 x1 x2) (eq_ix3 _)

end Cert.Logit

end
-- ==== Proof.Padded.lean ====
/-
  The padded memory the kernel reads, row by row, and the kernel's value over it as a value over the 51 rows of the bank.
-/
module

public import proofs.«01_k».proof.Proof.Gen.KernelIdeal.Frame
public import proofs.«01_k».proof.Proof.Array
public import proofs.«01_k».proof.Proof.Reference
public import Idealize.ShloMosaic.Lib.Claim

@[expose] public section

set_option maxRecDepth 16384

noncomputable section

namespace Cert.Logit

open Idealize.ShloMosaic Idealize.ShloMosaic.TcCoe Idealize.SL.Sem Cert.KernelIdeal Cert.KernelIdeal.Gen
open scoped BigOperators

/-- The padded array: the fifty stored rows of each class, its fixed row, and thirteen rows of zeros. -/
def padded (x1 : FVec Ideal S1000x50x1024 .f32) (x2 : FVec Ideal S1000x1x1024 .f32) : FVec Ideal S1000x64x1024 .bf16 :=
  concatenate S1000x64x1024 1 [⟨S1000x50x1024, truncf .bf16 x1 bitsLt_bf16_f32⟩, ⟨S1000x1x1024, truncf .bf16 x2 bitsLt_bf16_f32⟩,
    ⟨S1000x13x1024, broadcastInDim S1000x13x1024 ![] bcast_S_S1000x13x1024 (constant S_ .bf16 0x0000#16)⟩]
    concatenates_S1000x50x1024_S1000x1x1024_S1000x13x1024_S1000x64x1024_d1

variable (x0 : FVec Ideal S8x1024 .f32) (x1 : FVec Ideal S1000x50x1024 .f32) (x2 : FVec Ideal S1000x1x1024 .f32)

/-- Row `k` of class `c` of the padded array: the bank's row where `k` is below 51, zero above. -/
theorem padded_at (c : Fin 1000) (k : Fin 64) (d : Fin 1024) :
    padded x1 x2 (ix3 c k d) = if h : k.val < 51 then bank x1 x2 c ⟨k.val, h⟩ d else 0 := by
  simp only [bank_eq]
  pointwise [padded]
  by_cases h50 : k.val < 50
  · rw [dif_pos h50, dif_pos (show k.val < 51 by omega), dif_pos h50]
  · by_cases h51 : k.val < 51
    · rw [dif_neg h50, dif_pos (show k.val - 50 < 1 by omega), dif_pos h51, dif_neg h50]
      exact congrArg (fun e => x2 (ix3 c e d)) (Subsingleton.elim _ _)
    · rw [dif_neg h50, dif_neg (show ¬ k.val - 50 < 1 by omega), dif_neg h51]

/-- The first fifty-one rows. -/
theorem padded_low (c : Fin 1000) (k : Fin 51) (d : Fin 1024) :
    padded x1 x2 (ix3 c (k.castLE (by norm_num)) d) = bank x1 x2 c k d := by
  rw [padded_at, dif_pos (show (k.castLE (by norm_num) : Fin 64).val < 51 from k.isLt)]
  rfl

/-- The rest. -/
theorem padded_high (c : Fin 1000) (k : Fin 64) (hk : ¬ k.val < 51) (d : Fin 1024) : padded x1 x2 (ix3 c k d) = 0 := by
  rw [padded_at, dif_neg hk]

/-- A sum over 64 whose terms vanish from 51 on is the sum over the first 51. -/
theorem sum_low (f : Fin 64 → EReal) (hf : ∀ k : Fin 64, ¬ k.val < 51 → f k = 0) :
    ∑ k : Fin 64, f k = ∑ k : Fin 51, f (k.castLE (by norm_num)) := by
  rw [Fin.sum_univ_add (a := 51) (b := 13) f, Finset.sum_eq_zero (s := Finset.univ) (f := fun k : Fin 13 => f (Fin.natAdd 51 k)), add_zero]
  · rfl
  · intro k _
    exact hf _ (by show ¬ 51 + k.val < 51; omega)

/-- The padded similarities of the first fifty-one rows are the bank's. -/
theorem padSim_low (b : Fin 8) (c : Fin 1000) (k : Fin 51) :
    padSim x0 (padded x1 x2) b c (k.castLE (by norm_num)) = sim x0 x1 x2 b c k := by
  unfold padSim sim
  exact Finset.sum_congr rfl fun d _ => by rw [padded_low]

/-- The rest are zero. -/
theorem padSim_high (b : Fin 8) (c : Fin 1000) (k : Fin 64) (hk : ¬ k.val < 51) : padSim x0 (padded x1 x2) b c k = 0 := by
  unfold padSim
  exact Finset.sum_eq_zero fun d _ => by rw [padded_high _ _ _ _ hk, mul_zero]

/-- The padded weighted sums are the bank's. -/
theorem padAdapt_eq (b : Fin 8) (c : Fin 1000) (d : Fin 1024) :
    padAdapt x0 (padded x1 x2) b c d = adapt x0 x1 x2 b c d := by
  unfold padAdapt adapt
  rw [sum_low]
  · exact Finset.sum_congr rfl fun k _ => by rw [padded_low, padSim_low]
  · intro k hk
    rw [padded_high _ _ _ _ hk, zero_mul]

/-- THE KERNEL'S VALUE over the bank. -/
theorem padLogit_eq (b : Fin 8) (c : Fin 1000) :
    padLogit x0 (padded x1 x2) b c
      = (Ideal.ofBits .f32 0x42C80000#32 * ∑ k : Fin 51, weight (sim x0 x1 x2 b c k) * sim x0 x1 x2 b c k)
        * Ideal.rsqrt (∑ d : Fin 1024, adapt x0 x1 x2 b c d * adapt x0 x1 x2 b c d) := by
  unfold padLogit
  simp only [padAdapt_eq]
  rw [sum_low]
  · simp only [padSim_low]
  · intro k hk
    rw [padSim_high _ _ _ _ _ _ hk, mul_zero]

end Cert.Logit

end
-- ==== Proof.Run.lean ====
/-
  The kernel's run: what its result buffer holds at the end, as a function of the arguments.
-/
module

public import proofs.«01_k».proof.Proof.Padded
public import Idealize.ShloMosaic.Lib.Claim

@[expose] public section

set_option maxRecDepth 16384

noncomputable section

namespace Cert.Logit

open Idealize.ShloMosaic Idealize.ShloMosaic.TcCoe Idealize.SL.Sem Cert.KernelIdeal Cert.KernelIdeal.Gen
open scoped BigOperators

variable (m : (ℓ : Loc nD τ sig) → Buf (Elt Ideal) ℓ) (ρ : Dev nD → PrngReg)

/-- The array the region reads the memory from is the padded one. -/
theorem V_main_v3 (c : Dev nD) :
    V m c main_v3 = padded (m ((c.tc : Thread nD τ).loc main_arg1)) (m ((c.tc : Thread nD τ).loc main_arg2)) := by
  show StableHlo.after (List.flatten [hostOps0]) (fun b => m (c, b)) (Proc.devRef .tc main_v3) = _
  simp only [hostOps0, List.flatten_cons, List.flatten_nil, List.append_nil]
  after_results
  rfl

/-- The kernel's result: the output array, transposed and reshaped to images by classes. -/
def result (x0 : FVec Ideal S8x1024 .f32) (x1 : FVec Ideal S1000x50x1024 .f32) (x2 : FVec Ideal S1000x1x1024 .f32) : FVec Ideal S8x1000 .f32 :=
  shapeCast S8x1000 (transpose S8x40x25 [1, 0, 2] (outArr x0 (padded x1 x2)) transposes_S40x8x25_S8x40x25_1_0_2) shapeCasts_S8x40x25_S8x1000

/-- The result at image `b` and class `c`. -/
theorem result_at (x0 : FVec Ideal S8x1024 .f32) (x1 : FVec Ideal S1000x50x1024 .f32) (x2 : FVec Ideal S1000x1x1024 .f32) (b : Fin 8) (c : Fin 1000) :
    result x0 x1 x2 (ix2 b c) = padLogit x0 (padded x1 x2) b c := by
  pointwise [result, outArr]
  exact congrArg (padLogit x0 (padded x1 x2) b) (Fin.ext (Nat.div_add_mod c.val 25))

/-- What the host operations after the region leave in the result buffer. -/
theorem W_main_v6 (c : Dev nD) :
    Pipeline.afterTail₀ cfgs (dats m) 0 (V0 m) [hostOps1] c main_v6
      = result (m ((c.tc : Thread nD τ).loc main_arg0)) (m ((c.tc : Thread nD τ).loc main_arg1)) (m ((c.tc : Thread nD τ).loc main_arg2)) := by
  unfold Pipeline.afterTail₀
  have h4 : Pipeline.withArrays (cfgs 0).spec c (V0 m c) (fun w => (dats m 0 c).arrAt w (cfgs 0).N) (Proc.devRef .tc main_v4)
      = outArr (m ((c.tc : Thread nD τ).loc main_arg0)) (padded (m ((c.tc : Thread nD τ).loc main_arg1)) (m ((c.tc : Thread nD τ).loc main_arg2))) :=
    (Pipeline.withArrays_arr spec0 launch0.win.arr_inj c (V0 m c) (fun w => (dats m 0 c).arrAt w cfg0.N) 2).trans
      ((final_out m c).trans (congrArg₂ outArr (V_main_arg0 m c) (V_main_v3 m c)))
  simp only [hostOps1, List.flatten_cons, List.flatten_nil, List.append_nil]
  generalize Pipeline.withArrays (cfgs 0).spec c (V0 m c) (fun w => (dats m 0 c).arrAt w (cfgs 0).N) = W at h4 ⊢
  after_results
  unfold result
  rw [← h4]
  rfl

/-- The kernel runs to the end, leaves `result` of its arguments in the result buffer, and leaves the arguments as they were. -/
theorem kernel_run :
    θ_run defs (onTc (τ := τ) (fun c => main (F := Ideal) c)) ⟨m, fun _ => 0, ρ⟩ (fun r => ∀ c : Dev nD,
      r.2.mem ((c.tc : Thread nD τ).loc main_v6)
          = result (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  (θ_run defs _ _).mono (fun _ h c =>
    ⟨((h c).2 main_v6 (Pipeline.mem_restRefs_of main_v6 (by decide) (by decide))).trans (W_main_v6 m c),
      ((h c).1 0).trans (((dats m 0 c).arrAt_in 0 rfl _).trans (V_main_arg0 m c)),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.Logit

end
-- ==== Proof.Extended.lean ====
/-
  The equation of the claim, over the extended reals and with nothing of either program in it.

  For one image and one class: `x` is the image's feature row, `M` the class's rows of memory, `r m = ∑ d, x d * M m d`
  the similarity of row `m`, `w m` its weight, `a d = ∑ m, M m d * w m` the weighted sum of the rows and
  `S = ∑ d, a d * a d` its squared length. One side multiplies `100 * ∑ m, w m * r m` by the reciprocal root of `S`; the
  other divides each `a d` by the root of `S`, takes the product with `x` and multiplies by 100. They agree as soon as
  `S` is positive; nothing is asked to be finite.
-/
module

public import Idealize.ShloMosaic.PureOps.Ideal

@[expose] public section

noncomputable section

namespace Cert.Logit

open Idealize.ShloMosaic
open scoped BigOperators

/-- An extended real is finite when it is neither infinity. -/
def Fin' (x : EReal) : Prop := x ≠ ⊤ ∧ x ≠ ⊥

/-- A finite extended real is a real number. -/
theorem Fin'.exists_coe {x : EReal} (h : Fin' x) : ∃ r : ℝ, x = (r : EReal) :=
  ⟨x.toReal, (EReal.coe_toReal h.1 h.2).symm⟩

/-- Where a sum of two is finite, both are. -/
theorem fin_of_add {x y : EReal} (h : Fin' (x + y)) : Fin' x ∧ Fin' y := by
  obtain ⟨h1, h2⟩ := h
  induction x <;> induction y <;> simp_all [Fin']

/-- Where a finite sum is finite, every summand is. -/
theorem fin_of_sum {ι : Type*} (s : Finset ι) (f : ι → EReal) (h : Fin' (∑ i ∈ s, f i)) : ∀ i ∈ s, Fin' (f i) := by
  classical
  induction s using Finset.induction_on with
  | empty => simp
  | insert a s ha ih =>
    rw [Finset.sum_insert ha] at h
    obtain ⟨h1, h2⟩ := fin_of_add h
    intro i hi
    rcases Finset.mem_insert.1 hi with rfl | hi
    · exact h1
    · exact ih h2 i hi

/-- A factor that is nonnegative and not `⊤` moves into a sum from the left. -/
theorem mul_sum {ι : Type*} (s : Finset ι) (f : ι → EReal) (k : EReal) (h0 : 0 ≤ k) (ht : k ≠ ⊤) :
    k * ∑ i ∈ s, f i = ∑ i ∈ s, k * f i := by
  classical
  induction s using Finset.induction_on with
  | empty => simp
  | insert a s ha ih =>
    rw [Finset.sum_insert ha, Finset.sum_insert ha, EReal.left_distrib_of_nonneg_of_ne_top h0 ht, ih]

/-- A sum of real numbers, seen as extended reals, is the sum of the numbers. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite factor moves into a sum whose terms are all finite. -/
theorem mul_sum_of_fin {ι : Type*} (s : Finset ι) (f : ι → EReal) (k : EReal) (hk : Fin' k) (hf : ∀ i ∈ s, Fin' (f i)) :
    k * ∑ i ∈ s, f i = ∑ i ∈ s, k * f i := by
  obtain ⟨k, rfl⟩ := hk.exists_coe
  have e : ∀ i ∈ s, f i = (((f i).toReal : ℝ) : EReal) := fun i hi => (EReal.coe_toReal (hf i hi).1 (hf i hi).2).symm
  rw [Finset.sum_congr rfl e, coe_sum, ← EReal.coe_mul, Finset.mul_sum, ← coe_sum]
  exact Finset.sum_congr rfl fun i hi => by rw [EReal.coe_mul, ← e i hi]

/-- A square is nonnegative. -/
theorem mul_self_nonneg' (x : EReal) : 0 ≤ x * x := by
  induction x with
  | bot => simp
  | top => simp
  | coe r => rw [← EReal.coe_mul]; exact_mod_cast mul_self_nonneg r

/-- A number whose square is not `⊤` is finite. -/
theorem fin_of_mul_self {x : EReal} (h : x * x ≠ ⊤) : Fin' x := by
  induction x <;> simp_all [Fin']

/-- A number whose product with `⊤` is finite is zero. -/
theorem eq_zero_of_mul_top {x : EReal} (h : Fin' (x * ⊤)) : x = 0 := by
  rcases lt_trichotomy x 0 with h0 | h0 | h0
  · exact absurd (EReal.mul_top_of_neg h0) h.2
  · exact h0
  · exact absurd (EReal.mul_top_of_pos h0) h.1

/-- A number whose product with `⊥` is finite is zero. -/
theorem eq_zero_of_mul_bot {x : EReal} (h : Fin' (x * ⊥)) : x = 0 := by
  rcases lt_trichotomy x 0 with h0 | h0 | h0
  · exact absurd (EReal.mul_bot_of_neg h0) h.1
  · exact h0
  · exact absurd (EReal.mul_bot_of_pos h0) h.2

section Numerator

variable {D N : Type*} [Fintype D] [Fintype N] (x : D → EReal) (M : N → D → EReal) (w : N → EReal)

/-- One row: where every weighted entry is finite, the weight times the similarity is the sum of `x` times the weighted
    entries. -/
theorem weight_mul_sim (m : N) (hw : 0 ≤ w m) (ht : ∀ d, Fin' (M m d * w m)) :
    w m * ∑ d, x d * M m d = ∑ d, x d * (M m d * w m) := by
  by_cases h : w m = ⊤
  · have h0 : ∀ d, M m d = 0 := fun d => eq_zero_of_mul_top (h ▸ ht d)
    simp [h0]
  · rw [mul_sum _ _ _ hw h]
    exact Finset.sum_congr rfl fun d _ => by rw [mul_comm, mul_assoc]

/-- One coordinate: where every weighted entry is finite, `x` moves out of the sum over the rows. A row whose entry
    meets an infinite `x d` has an infinite similarity, so its weight is `0` or `⊤` and its weighted entry vanishes. -/
theorem sum_mul_weighted (d : D) (ht : ∀ m d, Fin' (M m d * w m))
    (hbot : ∀ m, ∑ d, x d * M m d = ⊥ → w m = 0) (htop : ∀ m, ∑ d, x d * M m d = ⊤ → w m = ⊤) :
    x d * ∑ m, M m d * w m = ∑ m, x d * (M m d * w m) := by
  by_cases hx : Fin' (x d)
  · exact mul_sum_of_fin _ _ _ hx fun m _ => ht m d
  · have h0 : ∀ m, M m d * w m = 0 := by
      intro m
      by_cases hb : ∑ d, x d * M m d = ⊥
      · rw [hbot m hb, mul_zero]
      by_cases hp : ∑ d, x d * M m d = ⊤
      · have := ht m d
        rw [htop m hp] at this
        rw [eq_zero_of_mul_top this, zero_mul]
      · have hf := fin_of_sum _ _ ⟨hp, hb⟩ d (Finset.mem_univ d)
        have : M m d = 0 := by
          by_cases h1 : x d = ⊤
          · rw [h1, mul_comm] at hf; exact eq_zero_of_mul_top hf
          by_cases h2 : x d = ⊥
          · rw [h2, mul_comm] at hf; exact eq_zero_of_mul_bot hf
          · exact absurd ⟨h1, h2⟩ hx
        rw [this, zero_mul]
    simp [h0]

/-- The weighted similarities add up to the product of `x` with the weighted sum of the rows, where that sum is finite
    in every coordinate. -/
theorem sum_weight_mul_sim (hw : ∀ m, 0 ≤ w m) (ha : ∀ d, Fin' (∑ m, M m d * w m))
    (hbot : ∀ m, ∑ d, x d * M m d = ⊥ → w m = 0) (htop : ∀ m, ∑ d, x d * M m d = ⊤ → w m = ⊤) :
    ∑ m, w m * ∑ d, x d * M m d = ∑ d, x d * ∑ m, M m d * w m := by
  have ht : ∀ m d, Fin' (M m d * w m) := fun m d => fin_of_sum _ _ (ha d) m (Finset.mem_univ m)
  rw [Finset.sum_congr rfl fun m _ => weight_mul_sim x M w m (hw m) (ht m), Finset.sum_comm]
  exact Finset.sum_congr rfl fun d _ => (sum_mul_weighted x M w d ht hbot htop).symm

/-- THE EQUATION: with a positive squared length, scaling the weighted similarities by the reciprocal root is the
    product of `x` with the weighted sum divided by the root. -/
theorem logit_eq (k : EReal) (hw : ∀ m, 0 ≤ w m)
    (hbot : ∀ m, ∑ d, x d * M m d = ⊥ → w m = 0) (htop : ∀ m, ∑ d, x d * M m d = ⊤ → w m = ⊤)
    (hS : 0 < ∑ d, (∑ m, M m d * w m) * ∑ m, M m d * w m) :
    (k * ∑ m, w m * ∑ d, x d * M m d) * Ideal.rsqrt (∑ d, (∑ m, M m d * w m) * ∑ m, M m d * w m)
      = k * ∑ d, x d * Ideal.div (∑ m, M m d * w m) (Ideal.sqrt (∑ d, (∑ m, M m d * w m) * ∑ m, M m d * w m)) := by
  generalize hSd : ∑ d, (∑ m, M m d * w m) * ∑ m, M m d * w m = S at hS ⊢
  induction S with
  | bot => simp at hS
  | top =>
    simp [Ideal.rsqrt_top, Ideal.sqrt_top, Ideal.div]
  | coe s =>
    have hs : 0 < s := by exact_mod_cast hS
    have hq : 0 < √s := Real.sqrt_pos.2 hs
    have ha : ∀ d, Fin' (∑ m, M m d * w m) := fun d => fin_of_mul_self fun h => by
      have hle := Finset.single_le_sum (f := fun d => (∑ m, M m d * w m) * ∑ m, M m d * w m)
        (fun i _ => mul_self_nonneg' _) (Finset.mem_univ d)
      rw [hSd] at hle
      simp only [h, top_le_iff] at hle
      exact EReal.coe_ne_top s hle
    have e1 : Ideal.rsqrt (s : EReal) = (((√s)⁻¹ : ℝ) : EReal) := by
      rw [Ideal.rsqrt_coe, if_neg hs.not_gt, if_neg hs.ne']
    have e2 : Ideal.sqrt (s : EReal) = ((√s : ℝ) : EReal) := by
      rw [Ideal.sqrt_coe, if_neg hs.not_gt]
    rw [e1, e2, sum_weight_mul_sim x M w hw ha hbot htop, mul_assoc]
    congr 1
    rw [mul_comm, mul_sum _ _ _ (by exact_mod_cast (inv_pos.2 hq).le) (EReal.coe_ne_top _)]
    refine Finset.sum_congr rfl fun d _ => ?_
    rw [Ideal.div_coe hq.ne', one_div, mul_comm, mul_assoc]

end Numerator

end Cert.Logit

end
-- ==== Proof.Precond.lean ====
/-
  The precondition's facts, and what it says: every squared length is positive.
-/
module

public import proofs.«01_k».proof.Pre_sums_not_zero
public import proofs.«01_k».proof.Proof.Reference
public import Idealize.ShloMosaic.Lib.Affine
public import Idealize.ShloMosaic.Lib.Decide
public import Idealize.ShloMosaic.Lib.ReduceAll

@[expose] public section

set_option maxRecDepth 16384

noncomputable section

namespace Cert.Logit

open Idealize.ShloMosaic

/-- The side conditions the precondition's operations take. -/
instance preFacts : Cert.Pre_sums_not_zero.Facts where
  concatenates_S1000x50x1024_S1000x1x1024_S1000x51x1024_d1 := by decide
  bcast_S_S8x1000x51 := by decide
  transposes_S1000x1024x8_S8x1000x1024_2_0_1 := by decide
  reducesTo_S8x1000x1024_S8x1000_d2 := by decide
  h_S_ := by decide
  bcast_S_S8x1000 := by decide
  reducesTo_S8x1000_S_d0_1 := by decide
  dot_S8x1024_S1000x51x1024_S8x1000x51_1_2_0_01_n_n_wf := by decide
  dot_S1000x51x1024_S8x1000x51_S1000x1024x8_1_2_2_0_0_1_wf := by decide

/-- The one index of a scalar. -/
instance : Subsingleton Cert.Pre_sums_not_zero.S_.Idx := ⟨fun _ _ => funext fun a => a.elim0⟩

/-- A comparison "greater than 0" that holds says its operand is positive. -/
theorem pos_of_cmp {y z : EReal} (hz : z = 0) (h : FloatOps.cmpf (F := Ideal) (φ := .f32) .ogt y z = 1#1) : 0 < y := by
  subst hz
  by_contra hn
  simp [FloatOps.cmpf, Ideal.cmp, hn] at h

/-- Where the precondition holds, the squared length of every weighted sum is positive. -/
theorem pos_of_pre (x0 : FVec Ideal Cert.ReferenceIdeal.S8x1024 .f32) (x1 : FVec Ideal Cert.ReferenceIdeal.S1000x50x1024 .f32)
    (x2 : FVec Ideal Cert.ReferenceIdeal.S1000x1x1024 .f32) (j : Cert.Pre_sums_not_zero.S_.Idx)
    (h : Cert.Pre_sums_not_zero.fn (F := Ideal) x0 x1 x2 j = 1#1) (b : Fin 8) (c : Fin 1000) :
    0 < ∑ d, adapt x0 x1 x2 b c d * adapt x0 x1 x2 b c d := by
  have h1 := Host.reduce_andi_all _ _ _ _ j h (ix2 b c)
  rw [← val_main_call0_v1_at]
  exact pos_of_cmp lit_zero h1

end Cert.Logit

end
-- ==== Proof.Equation.lean ====
/-
  The equation: where no weighted sum is the zero vector, the kernel's result is the reference's.
-/
module

public import proofs.«01_k».proof.Proof.Run
public import proofs.«01_k».proof.Proof.Extended
public import proofs.«01_k».proof.Proof.Precond

@[expose] public section

set_option maxRecDepth 16384

noncomputable section

namespace Cert.Logit

open Idealize.ShloMosaic
open scoped BigOperators

variable (x0 : FVec Ideal Cert.KernelIdeal.S8x1024 .f32) (x1 : FVec Ideal Cert.KernelIdeal.S1000x50x1024 .f32)
  (x2 : FVec Ideal Cert.KernelIdeal.S1000x1x1024 .f32)

/-- The kernel's result is the reference's, entry by entry, where the precondition holds. -/
theorem result_eq_at (h : Cert.Pre_sums_not_zero.fn (F := Ideal) x0 x1 x2 = fun _ => 1#1) (b : Fin 8) (c : Fin 1000) :
    result x0 x1 x2 (ix2 b c) = Cert.ReferenceIdeal.Read.val_main_v15 (F := Ideal) x0 x1 x2 (ix2 b c) := by
  rw [result_at, padLogit_eq, val_main_v15_at]
  exact logit_eq (fun d => x0 (ix2 b d)) (fun k d => bank x1 x2 c k d) (fun k => weight (sim x0 x1 x2 b c k)) _
    (fun k => weight_nonneg _)
    (fun k hk => (congrArg weight hk).trans weight_bot)
    (fun k hk => (congrArg weight hk).trans weight_top)
    (pos_of_pre x0 x1 x2 (fun i => i.elim0) (congrFun h _) b c)

/-- The kernel's result is the reference's where the precondition holds. -/
theorem result_eq (h : Cert.Pre_sums_not_zero.fn (F := Ideal) x0 x1 x2 = fun _ => 1#1) :
    result x0 x1 x2 = Cert.ReferenceIdeal.Read.val_main_v15 (F := Ideal) x0 x1 x2 := by
  funext j
  rw [eq_ix2 j]
  exact result_eq_at x0 x1 x2 h _ _

end Cert.Logit

end
-- ==== Proof.lean ====
/-
  The proof of `Cert.Claim`: the three programs end with their arguments unchanged and every semaphore at zero, and, where no
  weighted sum is the zero vector, the kernel and the reference leave the same array in their result buffers.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Read
public import proofs.«01_k».proof.Proof.Gen.ReferenceIdeal.Run
public import Idealize.ShloMosaic.Adequacy
public import Idealize.ShloMosaic.Init
public import proofs.«01_k».proof.Proof.Equation

@[expose] public section

noncomputable section

namespace Cert.Proof

open Idealize.ShloMosaic Idealize.SL.Sem

/-- The kernel as written ends with its arguments unchanged and its counters at zero. -/
theorem frame_kernel : Cert.quiescent_Kernel := fun m ρ _ => Cert.Kernel.Gen.frame m ρ

/-- So does the kernel over the extended reals. -/
theorem frame_ideal : Cert.quiescent_KernelIdeal := fun m ρ _ => Cert.KernelIdeal.Gen.frame m ρ

/-- And under the precondition. -/
theorem frame_ideal_pre : Cert.quiescent_KernelIdeal_pre_sums_not_zero := fun m ρ _ => Cert.KernelIdeal.Gen.frame m ρ

/-- The reference ends with its arguments unchanged; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- And under the precondition. -/
theorem frame_reference_pre : Cert.quiescent_ReferenceIdeal_pre_sums_not_zero := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Where no weighted sum is the zero vector, the kernel and the reference, launched on equal arguments, end with equal
    results: both leave the kernel's `result` of the arguments. -/
theorem algebraic : Cert.algebraic_KernelIdeal_ReferenceIdeal_pre_sums_not_zero := by
  intro m g m' g' hpre hagree
  refine ⟨fun c => Cert.Logit.result (m ((c.tc : Thread _ _).loc Cert.KernelIdeal.main_arg0))
      (m ((c.tc : Thread _ _).loc Cert.KernelIdeal.main_arg1)) (m ((c.tc : Thread _ _).loc Cert.KernelIdeal.main_arg2)),
    Cert.Logit.kernel_run m g, ?_⟩
  refine (θ_run Cert.ReferenceIdeal.defs _ _).mono (fun r h c => ⟨(h c).1.trans ?_, (h c).2⟩)
    (Cert.ReferenceIdeal.Value.run (F := Ideal) m' g')
  obtain ⟨h0, h1, h2⟩ := hagree c
  rw [h0, h1, h2]
  exact (Cert.ReferenceIdeal.Read.val_main_v15_eq _ _ _).trans (Cert.Logit.result_eq _ _ _ (hpre c)).symm

/-- Every claim of the certificate. -/
theorem claim : Cert.Claim :=
  ⟨Cert.Kernel.Gen.facts, Cert.KernelIdeal.Gen.facts, Cert.ReferenceIdeal.Gen.facts, Cert.Logit.preFacts,
    frame_kernel, frame_ideal, frame_ideal_pre, frame_reference, frame_reference_pre, trivial, algebraic⟩

end Cert.Proof

end
